-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "far" .f32 0x7F61B1E6#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x256 : Shape := ⟨2, ![16384, 256]⟩
abbrev S8192x256 : Shape := ⟨2, ![8192, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S16384x256 .f32) (main_arg1 : FVec F S8192x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S16384x256 : Shape := ⟨2, ![16384, 256]⟩
abbrev S8192x256 : Shape := ⟨2, ![8192, 256]⟩
abbrev S16384x8 : Shape := ⟨2, ![16384, 8]⟩
abbrev S256x256 : Shape := ⟨2, ![256, 256]⟩
abbrev S256x8 : Shape := ⟨2, ![256, 8]⟩
abbrev S256 : Shape := ⟨1, ![256]⟩
abbrev S256x1 : Shape := ⟨2, ![256, 1]⟩
abbrev S1x256 : Shape := ⟨2, ![1, 256]⟩
abbrev S1x8192 : Shape := ⟨2, ![1, 8192]⟩
abbrev S256x8192 : Shape := ⟨2, ![256, 8192]⟩

abbrev nBuf : Space → Nat
  | .hbm => 4
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S8192x256, .f32⟩
  | .hbm, ⟨2, _⟩ => ⟨S16384x8, .i32⟩
  | .hbm, ⟨3, _⟩ => ⟨S16384x256, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S256x8, .i32⟩
  | .local _ .vmem, ⟨4, _⟩ => ⟨S256x8, .i32⟩
  | .local _ .vmem, ⟨5, _⟩ => ⟨S256x256, .f32⟩
  | .local _ .vmem, ⟨6, _⟩ => ⟨S256x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_1 : Ref sig .tc := ⟨.hbm, 2, rfl⟩
abbrev main_v0_0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "far" => some ⊤
  | _ => none
-- ==== ReferenceIdeal.lean ====
abbrev S16384x256 : Shape := ⟨2, ![16384, 256]⟩
abbrev S8192x256 : Shape := ⟨2, ![8192, 256]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S256x8192 : Shape := ⟨2, ![256, 8192]⟩
abbrev S16384x8 : Shape := ⟨2, ![16384, 8]⟩
abbrev S16384x8x1 : Shape := ⟨3, ![16384, 8, 1]⟩
abbrev S16384x8x256 : Shape := ⟨3, ![16384, 8, 256]⟩

abbrev nBuf : Space → Nat
  | .hbm => 49
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S8192x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S256x8192, .f32⟩
  | .hbm, ⟨14, _⟩ => ⟨S16384x8192, .f32⟩
  | .hbm, ⟨15, _⟩ => ⟨S_, .f32⟩
  | .hbm, ⟨16, _⟩ => ⟨S16384x8192, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x8192, .f32⟩
  | .hbm, ⟨28, _⟩ => ⟨S16384x8192, .f32⟩
  | .hbm, ⟨29, _⟩ => ⟨S16384x8192, .i32⟩
  | .hbm, ⟨30, _⟩ => ⟨S16384x8192, .f32⟩
  | .hbm, ⟨31, _⟩ => ⟨S16384x8192, .i32⟩
  | .hbm, ⟨32, _⟩ => ⟨S16384x8, .i32⟩
  | .hbm, ⟨33, _⟩ => ⟨S_, .i32⟩
  | .hbm, ⟨34, _⟩ => ⟨S16384x8, .i32⟩
  | .hbm, ⟨35, _⟩ => ⟨S16384x8, .i1⟩
  | .hbm, ⟨36, _⟩ => ⟨S_, .i32⟩
  | .hbm, ⟨37, _⟩ => ⟨S16384x8, .i32⟩
  | .hbm, ⟨38, _⟩ => ⟨S16384x8, .i32⟩
  | .hbm, ⟨39, _⟩ => ⟨S16384x8, .i32⟩
  | .hbm, ⟨40, _⟩ => ⟨S16384x8x1, .i32⟩
  | .hbm, ⟨41, _⟩ => ⟨S16384x8x256, .f32⟩
  | .hbm, ⟨42, _⟩ => ⟨S_, .f32⟩
  | .hbm, ⟨43, _⟩ => ⟨S16384x256, .f32⟩
  | .hbm, ⟨44, _⟩ => ⟨S_, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call1_v0 : Ref sig .tc := ⟨.hbm, 29, rfl⟩
abbrev main_call1_v1_0 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Proof.TopK.lean ====
/- The order on positions that a stable ascending sort and a repeated "take the first smallest, then mask it" share.
   Pure facts about lists and finite index sets; no program is mentioned. -/
module

public import Idealize.ShloMosaic.PureOps
public import Idealize.ShloMosaic.Lib.SortFacts
public import Mathlib.Data.EReal.Basic

@[expose] public section

noncomputable section

namespace Cert.Proof.TopK

open Idealize.ShloMosaic

variable {n : Nat}

/-- Position `a` comes before position `b`: its value is smaller, or the values are equal and `a` is the earlier one. -/
def Earlier (d : Fin n → EReal) (a b : Fin n) : Prop := d a < d b ∨ (d a = d b ∧ a < b)

/-- "The value at `a` is strictly smaller than the value at `b`", as the Boolean a stable sort reads. -/
def less (d : Fin n → EReal) (a b : Fin n) : Bool := decide (d a < d b)

/-- Inserting a position that is earlier than every position already in a list ordered by `Earlier` keeps it ordered. -/
theorem pairwise_insert (d : Fin n → EReal) (a : Fin n) (l : List (Fin n)) (hl : l.Pairwise (Earlier d))
    (ha : ∀ b ∈ l, a < b) : (insertBefore (less d) a l).Pairwise (Earlier d) := by
  induction l with
  | nil => exact List.pairwise_singleton _ _
  | cons b l ih =>
    rw [List.pairwise_cons] at hl
    unfold insertBefore
    by_cases h : d b < d a
    · rw [if_pos (by simpa [less] using h), List.pairwise_cons]
      refine ⟨fun x hx => ?_, ih hl.2 fun c hc => ha c (List.mem_cons_of_mem b hc)⟩
      rcases List.mem_cons.mp ((perm_insertBefore (less d) a l).mem_iff.mp hx) with rfl | hx
      · exact Or.inl h
      · exact hl.1 x hx
    · rw [if_neg (by simpa [less] using h), List.pairwise_cons]
      have hab : d a ≤ d b := not_lt.mp h
      refine ⟨fun x hx => ?_, List.pairwise_cons.mpr hl⟩
      have hax : d a ≤ d x := by
        rcases List.mem_cons.mp hx with rfl | hx
        · exact hab
        · rcases hl.1 x hx with h' | h'
          · exact hab.trans h'.le
          · exact hab.trans h'.1.le
      rcases hax.lt_or_eq with h' | h'
      · exact Or.inl h'
      · exact Or.inr ⟨h', ha x hx⟩

/-- A stable sort of a list of positions written in ascending order is ordered by `Earlier`. -/
theorem pairwise_sort (d : Fin n → EReal) (l : List (Fin n)) (hl : l.Pairwise (· < ·)) :
    (stableSort (less d) l).Pairwise (Earlier d) := by
  induction l with
  | nil => exact List.Pairwise.nil
  | cons a l ih =>
    rw [List.pairwise_cons] at hl
    unfold stableSort
    exact pairwise_insert d a _ (ih hl.2) fun b hb => hl.1 b ((perm_stableSort (less d) l).mem_iff.mp hb)

/-- The positions in sorted order: `order d k` is the position whose value a stable ascending sort puts at place `k`. -/
def order (d : Fin n → EReal) : Fin n → Fin n := sortedFrom (less d)

/-- Of two places the lower one holds the position that comes first under `Earlier`. -/
theorem order_earlier (d : Fin n → EReal) (i j : Fin n) (hij : i < j) : Earlier d (order d i) (order d j) :=
  List.pairwise_iff_get.mp (pairwise_sort d (List.finRange n) (List.pairwise_lt_finRange n))
    (i.cast (length_sortPositions n (less d)).symm) (j.cast (length_sortPositions n (less d)).symm) hij

/-- No position is at two places. -/
theorem order_injective (d : Fin n → EReal) : Function.Injective (order d) := sortedFrom_injective (less d)

/-- Among the positions not at a lower place, the one at place `k` has the smallest value, and is the first that has it. -/
theorem order_first_min (d : Fin n → EReal) (k j : Fin n) (hj : ¬ ∃ i : Fin n, i.val < k.val ∧ order d i = j) :
    d (order d k) ≤ d j ∧ (d j = d (order d k) → order d k ≤ j) := by
  obtain ⟨i, rfl⟩ := sortedFrom_surjective (less d) j
  have hki : k ≤ i := le_of_not_gt fun h => hj ⟨i, h, rfl⟩
  rcases hki.lt_or_eq with h | rfl
  · rcases order_earlier d k i h with h' | h'
    · exact ⟨h'.le, fun he => absurd (show d (order d i) = _ from he) h'.ne'⟩
    · exact ⟨h'.1.le, fun _ => h'.2.le⟩
  · exact ⟨le_rfl, fun _ => le_rfl⟩

/-- The values with the positions at the first `k` places put out of reach, at `⊤`. -/
def masked (d : Fin n → EReal) (k : Nat) (j : Fin n) : EReal :=
  open Classical in if ∃ i : Fin n, i.val < k ∧ order d i = j then ⊤ else d j

/-- Before the first place nothing is masked. -/
theorem masked_zero (d : Fin n → EReal) (j : Fin n) : masked d 0 j = d j := by
  unfold masked; rw [if_neg]; rintro ⟨i, h, -⟩; omega

/-- Masking the position at place `k` too is masking the first `k + 1` places. -/
theorem masked_succ (d : Fin n → EReal) (k j : Fin n) :
    masked d (k.val + 1) j = if j = order d k then ⊤ else masked d k.val j := by
  unfold masked
  by_cases h : j = order d k
  · rw [if_pos h, if_pos ⟨k, Nat.lt_succ_self _, h.symm⟩]
  · rw [if_neg h]
    have : (∃ i : Fin n, i.val < k.val + 1 ∧ order d i = j) ↔ ∃ i : Fin n, i.val < k.val ∧ order d i = j := by
      refine ⟨fun ⟨i, hi, e⟩ => ⟨i, ?_, e⟩, fun ⟨i, hi, e⟩ => ⟨i, by omega, e⟩⟩
      rcases Nat.lt_succ_iff_lt_or_eq.mp hi with h' | h'
      · exact h'
      · exact absurd (e.symm.trans (congrArg (order d) (Fin.ext h'))) h
    simp only [this]

/-- Over finite values, the position at place `k` is the first of the smallest of the values masked below place `k`. -/
theorem masked_first_min (d : Fin n → EReal) (hd : ∀ j, d j < ⊤) (k j : Fin n) :
    masked d k.val (order d k) ≤ masked d k.val j
    ∧ (masked d k.val j = masked d k.val (order d k) → order d k ≤ j) := by
  have hk : masked d k.val (order d k) = d (order d k) := by
    unfold masked
    rw [if_neg]
    rintro ⟨i, hi, e⟩
    exact absurd (order_injective d e) (Fin.ne_of_lt hi)
  rw [hk]
  by_cases h : ∃ i : Fin n, i.val < k.val ∧ order d i = j
  · have : masked d k.val j = ⊤ := by unfold masked; rw [if_pos h]
    rw [this]
    exact ⟨le_top, fun e => absurd e (hd _).ne'⟩
  · have : masked d k.val j = d j := by unfold masked; rw [if_neg h]
    rw [this]
    exact order_first_min d k j h

/-- Two rows of values that compare alike are sorted alike. -/
theorem order_congr (d e : Fin n → EReal) (h : ∀ a b, d a < d b ↔ e a < e b) : order d = order e := by
  unfold order
  have : less d = less e := by funext a b; simp [less, h]
  rw [this]

end Cert.Proof.TopK

end
-- ==== Proof.Consts.lean ====
/- The float constants that the programs spell, as the extended reals their patterns denote. -/
module

public import Idealize.ShloMosaic.PureOps.Ideal

@[expose] public section

noncomputable section

namespace Cert.Proof.Consts

open Idealize.ShloMosaic

/-- The pattern of positive infinity denotes `⊤`. -/
theorem ofBits_inf : Ideal.ofBits .f32 0x7F800000#32 = ⊤ := by
  simp [Ideal.ofBits, Ideal.ieee]

/-- The pattern of `2.0` denotes the real 2. -/
theorem ofBits_two : Ideal.ofBits .f32 0x40000000#32 = ((2 : ℝ) : EReal) := by
  simp [Ideal.ofBits, Ideal.ieee, -EReal.coe_mul]; norm_num

/-- The pattern of `0.125` denotes the real 1/8. -/
theorem ofBits_eighth : Ideal.ofBits .f32 0x3E000000#32 = ((1 / 8 : ℝ) : EReal) := by
  simp [Ideal.ofBits, Ideal.ieee, -EReal.coe_mul]; norm_num

/-- The pattern of `8.0` denotes the real 8. -/
theorem ofBits_eight : Ideal.ofBits .f32 0x41000000#32 = ((8 : ℝ) : EReal) := by
  simp [Ideal.ofBits, Ideal.ieee, -EReal.coe_mul]; norm_num

/-- The pattern of `1e-12` denotes a positive real. -/
theorem ofBits_tiny : ∃ e : ℝ, 0 < e ∧ Ideal.ofBits .f32 0x2B8CBCCC#32 = (e : EReal) :=
  ⟨9223372 / 2 ^ 63, by norm_num, by simp [Ideal.ofBits, Ideal.ieee, -EReal.coe_mul]; norm_num⟩

end Cert.Proof.Consts

end
-- ==== Proof.Rounds.lean ====
/- ONE ROUND of the kernel's selection, read at an index: the row's minimum, the first column that attains it, that column
   marked, and that column put out of reach. Stated for any block of distances, over the extended reals; then the eight
   rounds in turn, whose columns are the first eight positions of the row in sorted order (Proof/TopK.lean `order`). -/
module

public import proofs.«01_k».proof.Proof.Gen.KernelIdeal.Skeleton
public import proofs.«01_k».proof.Proof.TopK
public import proofs.«01_k».proof.Proof.Consts
public import Idealize.ShloMosaic.Lib.Pointwise
public import Idealize.ShloMosaic.Lib.SortNet.Extract

@[expose] public section

noncomputable section

namespace Cert.Proof.Rounds

open Cert.KernelIdeal Cert.KernelIdeal.Gen Idealize.ShloMosaic

/-- A block of distances: 256 rows of 8192 dictionary entries each. -/
abbrev Block : Type := FVec Ideal S256x8192 .f32

/-- The column numbers, in every row. -/
def lanes : IVec S256x8192 32 := iota .tc S256x8192 32 [1] iota_S256x8192_d1_w32

/-- Each row's choice: the least column number among those whose distance is the row's minimum. -/
def colOf (s : Block) : IVec S256x1 32 :=
  shapeCast S256x1 (multiReductionI .minsi [1] S256
    (select (cmpf .oeq s (broadcastTo S256x8192 (shapeCast S256x1
        (multiReduction .minimumf [1] S256 s 0x7F800000#32 reduces_S256x8192_S256 (.inl rfl) rfl) shapeCasts_S256_S256x1)
        broadcasts_S256x1_S256x8192)) lanes (broadcast S256x8192 8192#32))
    2147483647#32 reduces_S256x8192_S256 rfl) shapeCasts_S256_S256x1

/-- The chosen column of each row, as a mask. -/
def hitOf (s : Block) : IVec S256x8192 1 :=
  cmpi .eq lanes (broadcastTo S256x8192 (colOf s) broadcasts_S256x1_S256x8192)

/-- The distances with each row's chosen column put out of reach. -/
def nextOf (s : Block) : Block :=
  select (hitOf s) (broadcast S256x8192 (Named.named κ "far" 0x7F61B1E6#32)) s

/-- The mask as zeros and ones. -/
def markOf (s : Block) : Block := sitofp .f32 (extui 32 (hitOf s) natLt_1_32)

/-- The distances after `k` rounds. -/
def after (s : Block) : Nat → Block
  | 0 => s
  | k + 1 => nextOf (after s k)

/-! ## A round read at an index -/

/-- A signed minimum over a finite set, started at a word no smaller, is the least element when one is known. -/
theorem fold_minsi_eq {ι : Type} (s : Finset ι) (init : BitVec 32) (g : ι → BitVec 32) (k : ι) (hk : k ∈ s)
    (hi : (g k).toInt ≤ init.toInt) (h : ∀ j ∈ s, (g k).toInt ≤ (g j).toInt) : s.fold IntOp.minsi init g = g k := by
  apply BitVec.eq_of_toInt_eq
  rw [← Finset.fold_hom (op := IntOp.minsi) (op' := min) (m := BitVec.toInt) SortNet.toInt_minsi]
  exact le_antisymm ((Finset.fold_min_le _).mpr (Or.inr ⟨k, hk, le_rfl⟩)) ((Finset.le_fold_min _).mpr ⟨hi, h⟩)

/-- The word of a column number, read signed, is the number. -/
theorem toInt_col (j : Fin 8192) : (BitVec.ofNat 32 j.val).toInt = j.val := by
  have := j.isLt
  rw [BitVec.toInt_eq_toNat_cond, BitVec.toNat_ofNat, Nat.mod_eq_of_lt (by omega), if_pos (by omega)]

/-- The words of two column numbers are equal exactly when the numbers are. -/
theorem col_inj (a b : Fin 8192) : BitVec.ofNat 32 a.val = BitVec.ofNat 32 b.val ↔ a = b := by
  refine ⟨fun h => Fin.ext ?_, fun h => h ▸ rfl⟩
  have := congrArg BitVec.toInt h
  rw [toInt_col, toInt_col] at this
  omega

/-- THE CHOICE: if column `j` holds the row's minimum and is the first that does, it is the row's choice. -/
theorem colOf_apply (s : Block) (r : Fin 256) (j : Fin 8192) (hmin : ∀ i, s (ix2 r j) ≤ s (ix2 r i))
    (hfirst : ∀ i, s (ix2 r i) = s (ix2 r j) → j ≤ i) : colOf s (ix2 r 0) = BitVec.ofNat 32 j.val := by
  have hrow : Finset.fold min (Ideal.ofBits FTy.f32 0x7F800000#32) (fun i : Fin 8192 => s (ix2 r i)) Finset.univ
      = s (ix2 r j) := by
    rw [Consts.ofBits_inf]
    exact le_antisymm ((Finset.fold_min_le _).mpr (Or.inr ⟨j, Finset.mem_univ _, le_rfl⟩))
      ((Finset.le_fold_min _).mpr ⟨le_top, fun i _ => hmin i⟩)
  pointwise [colOf, lanes]
  simp only [hrow]
  refine (fold_minsi_eq _ _ _ j (Finset.mem_univ _) ?_ fun i _ => ?_).trans (if_pos rfl)
  · have := j.isLt
    rw [if_pos rfl, toInt_col]
    exact (Int.ofNat_le.mpr (by omega : j.val ≤ 2147483647)).trans (by decide)
  · rw [if_pos rfl, toInt_col]
    have := j.isLt
    split
    · rename_i h
      rw [toInt_col]
      exact Int.ofNat_le.mpr (hfirst i h)
    · exact (Int.ofNat_le.mpr (by omega : j.val ≤ 8192)).trans (by decide)

/-- The mask at a column: whether it is the row's choice. -/
theorem hitOf_apply (s : Block) (r : Fin 256) (j k : Fin 8192) (h : colOf s (ix2 r 0) = BitVec.ofNat 32 j.val) :
    hitOf s (ix2 r k) = if k = j then 1#1 else 0#1 := by
  pointwise [hitOf, lanes]
  rw [h]
  by_cases hk : k = j
  · subst hk; simp [IntOp.cmpi]
  · have : ¬ BitVec.ofNat 32 k.val = BitVec.ofNat 32 j.val := fun e => hk ((col_inj k j).mp e)
    rw [if_neg hk]
    show BitVec.ofBool (BitVec.ofNat 32 k.val == BitVec.ofNat 32 j.val) = 0#1
    rw [beq_eq_false_iff_ne.mpr this]; rfl

/-- The distances after a round: `⊤` at the row's choice, unchanged elsewhere. -/
theorem nextOf_apply (s : Block) (r : Fin 256) (j k : Fin 8192) (h : colOf s (ix2 r 0) = BitVec.ofNat 32 j.val) :
    nextOf s (ix2 r k) = if k = j then ⊤ else s (ix2 r k) := by
  pointwise [nextOf]
  rw [hitOf_apply s r j k h, IdealRules.named_const.ideal_named_scalar κ "far" (φ := .f32) 0x7F61B1E6#32 ⊤ rfl]
  by_cases hk : k = j <;> simp [hk, Scalar.select]

/-- The mark at a column: 1 at the row's choice, 0 elsewhere. -/
theorem markOf_apply (s : Block) (r : Fin 256) (j k : Fin 8192) (h : colOf s (ix2 r 0) = BitVec.ofNat 32 j.val) :
    markOf s (ix2 r k) = (((if k = j then 1 else 0 : ℝ)) : EReal) := by
  pointwise [markOf]
  rw [hitOf_apply s r j k h]
  by_cases hk : k = j
  · simp only [hk, if_true]
    show (((BitVec.setWidth 32 1#1).toInt : ℝ) : EReal) = _
    norm_num
  · simp only [hk, if_false]
    show (((BitVec.setWidth 32 0#1).toInt : ℝ) : EReal) = _
    norm_num

/-! ## The rounds in turn -/

variable (s : Block) (r : Fin 256) (d : Fin 8192 → EReal) (hd : ∀ j, d j < ⊤) (hs : ∀ j, s (ix2 r j) = d j)

include hd hs

/-- After `k` rounds the row holds its distances with the positions at the first `k` places masked. -/
theorem after_apply (k : Nat) (hk : k ≤ 8192) : ∀ j, after s k (ix2 r j) = TopK.masked d k j := by
  induction k with
  | zero => intro j; rw [TopK.masked_zero]; exact hs j
  | succ k ih =>
    intro j
    have ih := ih (by omega)
    have hc : colOf (after s k) (ix2 r 0) = BitVec.ofNat 32 (TopK.order d ⟨k, by omega⟩).val := by
      refine colOf_apply _ r _ (fun i => ?_) fun i => ?_
      · rw [ih, ih]; exact (TopK.masked_first_min d hd ⟨k, by omega⟩ i).1
      · rw [ih, ih]; exact (TopK.masked_first_min d hd ⟨k, by omega⟩ i).2
    show nextOf (after s k) (ix2 r j) = _
    rw [nextOf_apply _ r _ j hc, ih]
    exact (TopK.masked_succ d ⟨k, by omega⟩ j).symm

/-- Round `k` chooses the position at place `k` in sorted order. -/
theorem col_after (k : Fin 8192) : colOf (after s k.val) (ix2 r 0) = BitVec.ofNat 32 (TopK.order d k).val := by
  have h := after_apply s r d hd hs k.val k.isLt.le
  refine colOf_apply _ r _ (fun i => ?_) fun i => ?_
  · rw [h, h]; exact (TopK.masked_first_min d hd k i).1
  · rw [h, h]; exact (TopK.masked_first_min d hd k i).2

/-- Round `k` marks the position at place `k` in sorted order. -/
theorem mark_after (k : Fin 8192) (j : Fin 8192) :
    markOf (after s k.val) (ix2 r j) = (((if j = TopK.order d k then 1 else 0 : ℝ)) : EReal) :=
  markOf_apply _ r _ j (col_after s r d hd hs k)

end Cert.Proof.Rounds

end
-- ==== Proof.Body.lean ====
/- WHAT THE KERNEL BODY LEAVES in its two output blocks, as functions of its two input blocks, over the extended reals. The
   printed body writes its eight rounds out one after another; here each is recognised as the one round of Proof/Rounds.lean
   applied to the block the round before left, and the two output blocks are read at an index. -/
module

public import proofs.«01_k».proof.Proof.Gen.KernelIdeal.Frame
public import proofs.«01_k».proof.Proof.Rounds

@[expose] public section

noncomputable section

namespace Cert.Proof.Body

open Cert.KernelIdeal Cert.KernelIdeal.Gen Idealize.ShloMosaic Cert.Proof.Rounds

/-- Two zero offsets are the zero function. -/
theorem hz : (![0, 0] : Fin 2 → Nat) = fun _ => 0 := funext fun a => by fin_cases a <;> rfl

variable (x0 : Vec Ideal S256x256 .f32) (x1 : Vec Ideal S8192x256 .f32)

/-- The body reads its whole first input block. -/
theorem ld0 : View.ld x0 r0_0 = x0 := View.ld_unit_zero hz _ _
/-- The body reads its whole second input block. -/
theorem ld1 : View.ld x1 r0_1 = x1 := View.ld_unit_zero hz _ _

/-- The block of distances from the two input blocks. -/
abbrev dist : Block := k0_pay2 x0 x1

/-- The column numbers the body compares with. -/
theorem pay28_eq : k0_pay28 x0 x1 = lanes := rfl
/-- The body's block after one round. -/
theorem pay29_eq : k0_pay29 x0 x1 = after (dist x0 x1) 1 := by unfold k0_pay29; rw [ld0, ld1]; rfl
/-- The column the second round takes. -/
theorem pay30_eq : k0_pay30 x0 x1 = colOf (after (dist x0 x1) 1) := by unfold k0_pay30; rw [ld0, ld1]; rfl

variable (s : Block)

/-- One round on from a block whose taken column is known. -/
theorem pay9_eq : k0_pay9 lanes s (colOf s) = nextOf s := rfl
/-- The column taken one round on. -/
theorem pay10_eq : k0_pay10 lanes s (colOf s) = colOf (nextOf s) := rfl
/-- Two rounds on. -/
theorem pay12_eq : k0_pay12 lanes s (colOf s) = nextOf (nextOf s) := by
  unfold k0_pay12 k0_pay11; rw [pay10_eq, pay9_eq]; rfl
/-- The column taken two rounds on. -/
theorem pay13_eq : k0_pay13 lanes s (colOf s) = colOf (nextOf (nextOf s)) := by
  unfold k0_pay13; rw [pay12_eq]; rfl
/-- Three rounds on. -/
theorem pay15_eq : k0_pay15 lanes s (colOf s) = nextOf (nextOf (nextOf s)) := by
  unfold k0_pay15 k0_pay14; rw [pay13_eq, pay12_eq]; rfl
/-- The marks of three successive rounds are added to the marks so far. -/
theorem pay16_eq (v33 : Block) : k0_pay16 lanes s v33 (colOf s)
    = addf (addf (addf v33 (markOf s)) (markOf (nextOf s))) (markOf (nextOf (nextOf s))) := by
  unfold k0_pay16 k0_pay14 k0_pay11; rw [pay13_eq, pay10_eq]; rfl
/-- The column taken three rounds on. -/
theorem pay17_eq : k0_pay17 lanes s (colOf s) = colOf (nextOf (nextOf (nextOf s))) := by
  unfold k0_pay17; rw [pay15_eq]; rfl
/-- The places hit three rounds on. -/
theorem pay18_eq : k0_pay18 lanes s (colOf s) = hitOf (nextOf (nextOf (nextOf s))) := by
  unfold k0_pay18; rw [pay17_eq]; rfl
/-- One round on from a block whose hit places are known. -/
theorem pay19_eq : k0_pay19 s (hitOf s) (Named.named κ "far" 0x7F61B1E6#32) = nextOf s := rfl
/-- The column taken one round on from a block whose hit places are known. -/
theorem pay20_eq : k0_pay20 lanes s (hitOf s) (Named.named κ "far" 0x7F61B1E6#32) = colOf (nextOf s) := rfl
/-- Two rounds on from a block whose hit places are known. -/
theorem pay22_eq : k0_pay22 lanes s (hitOf s) (Named.named κ "far" 0x7F61B1E6#32) = nextOf (nextOf s) := by
  unfold k0_pay22 k0_pay21; rw [pay20_eq, pay19_eq]; rfl
/-- The column taken two rounds on from a block whose hit places are known. -/
theorem pay23_eq : k0_pay23 lanes s (hitOf s) (Named.named κ "far" 0x7F61B1E6#32) = colOf (nextOf (nextOf s)) := by
  unfold k0_pay23; rw [pay22_eq]; rfl
/-- The column taken three rounds on from a block whose hit places are known. -/
theorem pay25_eq : k0_pay25 lanes s (hitOf s) (Named.named κ "far" 0x7F61B1E6#32) = colOf (nextOf (nextOf (nextOf s))) := by
  unfold k0_pay25 k0_pay24; rw [pay23_eq, pay22_eq]; rfl
/-- The marks of four successive rounds are added to the marks so far. -/
theorem pay26_eq (v78 : Block) : k0_pay26 lanes s v78 (hitOf s) (Named.named κ "far" 0x7F61B1E6#32)
    = addf (addf (addf (addf v78 (markOf s)) (markOf (nextOf s))) (markOf (nextOf (nextOf s))))
        (markOf (nextOf (nextOf (nextOf s)))) := by
  unfold k0_pay26 k0_pay24 k0_pay21; rw [pay25_eq, pay23_eq, pay20_eq]; rfl

/-- The body's block after four rounds. -/
theorem pay31_eq : k0_pay31 x0 x1 = after (dist x0 x1) 4 := by
  unfold k0_pay31; rw [pay28_eq, pay29_eq, pay30_eq, pay15_eq]; rfl
/-- The places the fifth round hits. -/
theorem pay32_eq : k0_pay32 x0 x1 = hitOf (after (dist x0 x1) 4) := by
  unfold k0_pay32; rw [pay28_eq, pay29_eq, pay30_eq, pay18_eq]; rfl

/-- The marks of all eight rounds added up, from zero. -/
def marks (s : Block) : Block :=
  addf (addf (addf (addf (addf (addf (addf (addf (broadcast S256x8192 (Scalar.ofBits .f32 0x00000000#32))
    (markOf (after s 0))) (markOf (after s 1))) (markOf (after s 2))) (markOf (after s 3))) (markOf (after s 4)))
    (markOf (after s 5))) (markOf (after s 6))) (markOf (after s 7))

/-- The body's second output block is the marks of all eight rounds times the dictionary, scaled. -/
theorem out3_eq : out0_3 x0 x1 = k0_pay1 x1 (marks (dist x0 x1)) := by
  unfold out0_3
  rw [View.canon_unit_zero hz, pay32_eq, pay31_eq, pay28_eq, pay29_eq, pay30_eq, pay26_eq, pay16_eq, ld0, ld1]
  rfl

/-- The body's first output block has at row `r`, place `k` the column that round `k` takes in row `r`. -/
theorem out2_apply (r : Fin 256) (k : Fin 8) : out0_2 x0 x1 (ix2 r k) = colOf (after (dist x0 x1) k.val) (ix2 r 0) := by
  unfold out0_2
  rw [View.canon_unit_zero hz, pay32_eq, pay31_eq, pay28_eq, pay29_eq, pay30_eq, ld0, ld1]
  unfold k0_pay27
  rw [pay10_eq, pay13_eq, pay17_eq, pay20_eq, pay23_eq, pay25_eq]
  fin_cases k <;> pointwise <;> rfl

end Cert.Proof.Body

end
-- ==== Proof.Meaning.lean ====
/- WHAT BOTH PROGRAMS COMPUTE, over the real numbers: for a row `x` and a dictionary `D` of 8192 rows, the squared distances,
   the dictionary rows in order of distance (equal distances by position), and the mean of the first eight rows. -/
module

public import proofs.«01_k».proof.Proof.TopK
public import Mathlib.Data.EReal.Operations

@[expose] public section

noncomputable section

open scoped BigOperators

namespace Cert.Proof.Meaning

/-- A row of 256 reals. -/
abbrev Row : Type := Fin 256 → ℝ

/-- The squared distance from `x` to dictionary row `j`, by its expansion. -/
def dist (x : Row) (D : Fin 8192 → Row) (j : Fin 8192) : ℝ :=
  (∑ c, x c * x c + ∑ c, D j c * D j c) - 2 * ∑ c, x c * D j c

/-- The same distances as extended reals. -/
def distE (x : Row) (D : Fin 8192 → Row) (j : Fin 8192) : EReal := ((dist x D j : ℝ) : EReal)

/-- The dictionary row at place `k` in order of distance from `x`. -/
def rank (x : Row) (D : Fin 8192 → Row) (k : Fin 8192) : Fin 8192 := TopK.order (distE x D) k

/-- The place `k` below eight, as a place among all the dictionary's rows. -/
def place (k : Fin 8) : Fin 8192 := k.castLE (by decide)

/-- The mean of the eight nearest dictionary rows, at column `c`. -/
def mean (x : Row) (D : Fin 8192 → Row) (c : Fin 256) : ℝ := (∑ k : Fin 8, D (rank x D (place k)) c) / 8

/-- A distance of real rows is below infinity. -/
theorem distE_lt_top (x : Row) (D : Fin 8192 → Row) (j : Fin 8192) : distE x D j < ⊤ := EReal.coe_lt_top _

/-- A finite sum of reals, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of products of reals, taken in the extended reals, is the real sum of products. -/
theorem coe_sum_mul {ι : Type} (s : Finset ι) (f g : ι → ℝ) :
    ∑ i ∈ s, ((f i : ℝ) : EReal) * ((g i : ℝ) : EReal) = ((∑ i ∈ s, f i * g i : ℝ) : EReal) := by
  rw [← coe_sum]
  exact Finset.sum_congr rfl fun i _ => (EReal.coe_mul _ _).symm

end Cert.Proof.Meaning

end
-- ==== Proof.BodyValue.lean ====
/- THE KERNEL BODY'S TWO OUTPUT BLOCKS in terms of Proof/Meaning.lean, when the input blocks hold real numbers: the index
   block holds each row's eight nearest dictionary rows in order, the other block their mean. -/
module

public import proofs.«01_k».proof.Proof.Body
public import proofs.«01_k».proof.Proof.Meaning

@[expose] public section

noncomputable section

open scoped BigOperators

namespace Cert.Proof.BodyValue

open Cert.KernelIdeal Cert.KernelIdeal.Gen Idealize.ShloMosaic Cert.Proof.Rounds Cert.Proof.Meaning

variable (x0 : Vec Ideal S256x256 .f32) (x1 : Vec Ideal S8192x256 .f32) (r : Fin 256) (x : Row) (D : Fin 8192 → Row)
  (hx : ∀ c, x0 (ix2 r c) = ((x c : ℝ) : EReal)) (hD : ∀ j c, x1 (ix2 j c) = ((D j c : ℝ) : EReal))

include hx hD

/-- The block of distances holds the squared distances. -/
theorem dist_apply (j : Fin 8192) : Body.dist x0 x1 (ix2 r j) = distE x D j := by
  pointwise [Body.dist, k0_pay2]
  simp only [hx, hD, coe_sum_mul, Consts.ofBits_two]
  rw [← EReal.coe_add, ← EReal.coe_mul, ← EReal.coe_sub]
  rfl

/-- The index block holds, at row `r` and place `k`, the number of the dictionary row at that place. -/
theorem out2_apply (k : Fin 8) : out0_2 x0 x1 (ix2 r k) = BitVec.ofNat 32 (rank x D (place k)).val := by
  rw [Body.out2_apply]
  exact col_after _ r (distE x D) (distE_lt_top x D) (dist_apply x0 x1 r x D hx hD) (place k)

/-- The marks of a row count, at column `j`, the places below eight that hold `j`. -/
theorem marks_apply (j : Fin 8192) : Body.marks (Body.dist x0 x1) (ix2 r j)
    = ((∑ k : Fin 8, if j = rank x D (place k) then 1 else 0 : ℝ) : EReal) := by
  have h : ∀ k : Fin 8, markOf (after (Body.dist x0 x1) k.val) (ix2 r j)
      = (((if j = rank x D (place k) then 1 else 0 : ℝ)) : EReal) := fun k =>
    mark_after _ r (distE x D) (distE_lt_top x D) (dist_apply x0 x1 r x D hx hD) (place k) j
  rw [← coe_sum, Fin.sum_univ_eight, ← h 0, ← h 1, ← h 2, ← h 3, ← h 4, ← h 5, ← h 6, ← h 7]
  pointwise [Body.marks]

omit hx hD in
/-- The product of a row's marks with the dictionary picks out the marked rows. -/
theorem marked_rows (c : Fin 256) : (∑ j : Fin 8192, (∑ k : Fin 8, if j = rank x D (place k) then 1 else 0 : ℝ) * D j c)
    = ∑ k : Fin 8, D (rank x D (place k)) c := by
  simp only [Finset.sum_mul, ite_mul, one_mul, zero_mul]
  rw [Finset.sum_comm]
  simp

/-- The other block holds, at row `r`, the mean of the eight nearest dictionary rows. -/
theorem out3_apply (c : Fin 256) : out0_3 x0 x1 (ix2 r c) = ((mean x D c : ℝ) : EReal) := by
  rw [Body.out3_eq]
  pointwise [k0_pay1]
  simp only [marks_apply x0 x1 r x D hx hD, hD, coe_sum_mul, Consts.ofBits_eighth]
  rw [marked_rows x D c, ← EReal.coe_mul]
  unfold mean
  rw [mul_one_div]

end Cert.Proof.BodyValue

end
-- ==== Proof.KernelValue.lean ====
/- THE KERNEL'S RESULT ARRAYS after the run, when its argument arrays hold real numbers: grid point `t` reads rows
   `256 t` to `256 t + 255` of the first argument and the whole of the second, and writes the same rows of both results;
   the 64 points cover every row. So the index array is `idxArr` of the arguments and the other array is `meanArr`. -/
module

public import proofs.«01_k».proof.Proof.Gen.KernelIdeal.Value
public import proofs.«01_k».proof.Proof.BodyValue

@[expose] public section

noncomputable section

namespace Cert.Proof.KernelValue

open Cert.KernelIdeal Cert.KernelIdeal.Gen Cert.KernelIdeal.Value Idealize.ShloMosaic Idealize.ShloMosaic.TcCoe Idealize.SL.Sem
open Cert.Proof.Meaning

/-- The index array: at row `R` and place `k`, the number of the dictionary row at that place. -/
def idxArr (X : Fin 16384 → Row) (D : Fin 8192 → Row) : IVec ⟨2, ![16384, 8]⟩ 32 :=
  fun i => BitVec.ofNat 32 (rank (X (i 0)) D (place (i 1))).val

/-- The mean array: at row `R`, the mean of the eight nearest dictionary rows. -/
def meanArr (X : Fin 16384 → Row) (D : Fin 8192 → Row) : FVec Ideal ⟨2, ![16384, 256]⟩ .f32 :=
  fun i => ((mean (X (i 0)) D (i 1) : ℝ) : EReal)

variable (m : (ℓ : Loc nD τ sig) → Buf (Elt Ideal) ℓ) (ρ : Dev nD → PrngReg)

/-- The argument's window is at block `t` at grid point `t`. -/
theorem index0 : ∀ t : Fin cfg0.N, win0_0.index t (0 : Fin 2) = t.val ∧ win0_0.index t (1 : Fin 2) = 0 :=
  (by decide +kernel : ∀ t : Fin grid0.N, _)
/-- The dictionary's window stays at its first block at every grid point. -/
theorem index1 : ∀ t : Fin cfg0.N, win0_1.index t (0 : Fin 2) = 0 ∧ win0_1.index t (1 : Fin 2) = 0 :=
  (by decide +kernel : ∀ t : Fin grid0.N, _)
/-- The first result's window is at block `t` at grid point `t`. -/
theorem index2 : ∀ t : Fin cfg0.N, win0_2.index t (0 : Fin 2) = t.val ∧ win0_2.index t (1 : Fin 2) = 0 :=
  (by decide +kernel : ∀ t : Fin grid0.N, _)
/-- The second result's window is at block `t` at grid point `t`. -/
theorem index3 : ∀ t : Fin cfg0.N, win0_3.index t (0 : Fin 2) = t.val ∧ win0_3.index t (1 : Fin 2) = 0 :=
  (by decide +kernel : ∀ t : Fin grid0.N, _)

/-- Row `r` of block `t`, as a row of the whole array. -/
def row (t : Fin cfg0.N) (r : Fin 256) : Fin 16384 := ⟨t.val * 256 + r.val, by
  have h : t.val < 64 := t.isLt
  omega⟩

/-- Row `r` of the argument's block `t` is row `row t r` of the argument. -/
theorem emb0 (t : Fin cfg0.N) (r c : Fin 256) : ((cfg0.win 0).blk t).view.emb (ix2 r c) = ix2 (row t r) c := by
  obtain ⟨e0, e1⟩ := index0 t
  funext a; apply Fin.ext
  match a with
  | ⟨0, _⟩ => show win0_0.index t (0 : Fin 2) * 256 + 1 * r.val = t.val * 256 + r.val; omega
  | ⟨1, _⟩ => show win0_0.index t (1 : Fin 2) * 256 + 1 * c.val = c.val; omega

/-- The dictionary's block is the dictionary. -/
theorem emb1 (t : Fin cfg0.N) (j : Fin 8192) (c : Fin 256) : ((cfg0.win 1).blk t).view.emb (ix2 j c) = ix2 j c := by
  obtain ⟨e0, e1⟩ := index1 t
  funext a; apply Fin.ext
  match a with
  | ⟨0, _⟩ => show win0_1.index t (0 : Fin 2) * 8192 + 1 * j.val = j.val; omega
  | ⟨1, _⟩ => show win0_1.index t (1 : Fin 2) * 256 + 1 * c.val = c.val; omega

/-- Row `r` of the first result's block `t` is row `row t r` of that result. -/
theorem emb2 (t : Fin cfg0.N) (r : Fin 256) (k : Fin 8) : ((cfg0.win 2).blk t).view.emb (ix2 r k) = ix2 (row t r) k := by
  obtain ⟨e0, e1⟩ := index2 t
  funext a; apply Fin.ext
  match a with
  | ⟨0, _⟩ => show win0_2.index t (0 : Fin 2) * 256 + 1 * r.val = t.val * 256 + r.val; omega
  | ⟨1, _⟩ => show win0_2.index t (1 : Fin 2) * 8 + 1 * k.val = k.val; omega

/-- Row `r` of the second result's block `t` is row `row t r` of that result. -/
theorem emb3 (t : Fin cfg0.N) (r c : Fin 256) : ((cfg0.win 3).blk t).view.emb (ix2 r c) = ix2 (row t r) c := by
  obtain ⟨e0, e1⟩ := index3 t
  funext a; apply Fin.ext
  match a with
  | ⟨0, _⟩ => show win0_3.index t (0 : Fin 2) * 256 + 1 * r.val = t.val * 256 + r.val; omega
  | ⟨1, _⟩ => show win0_3.index t (1 : Fin 2) * 256 + 1 * c.val = c.val; omega

/-- Every row of the whole array is a row of some block. -/
theorem exists_row (R : Fin 16384) : ∃ (t : Fin cfg0.N) (r : Fin 256), R = row t r :=
  ⟨⟨R.val / 256, by have := R.isLt; show R.val / 256 < 64; omega⟩, ⟨R.val % 256, Nat.mod_lt _ (by decide)⟩,
    Fin.ext (by show R.val = R.val / 256 * 256 + R.val % 256; omega)⟩

variable (c : Dev nD) (X : Fin 16384 → Row) (D : Fin 8192 → Row)
  (hX : ∀ R j, m ((c : Thread nD τ).loc main_arg0) (ix2 R j) = ((X R j : ℝ) : EReal))
  (hD : ∀ i j, m ((c : Thread nD τ).loc main_arg1) (ix2 i j) = ((D i j : ℝ) : EReal))

/-- The dictionary's block is the dictionary. -/
theorem iblk1_apply (hD : ∀ i j, m ((c : Thread nD τ).loc main_arg1) (ix2 i j) = ((D i j : ℝ) : EReal))
    (t : Fin cfg0.N) (i : Fin 8192) (j : Fin 256) : iblk m c 1 t (ix2 i j) = ((D i j : ℝ) : EReal) := by
  show V m c main_arg1 (((cfg0.win 1).blk t).view.emb (ix2 i j)) = _
  rw [emb1, V_main_arg1]
  exact hD i j

/-- Block `t` of the first argument holds rows `256 t` to `256 t + 255`. -/
theorem iblk0_apply (hX : ∀ R j, m ((c : Thread nD τ).loc main_arg0) (ix2 R j) = ((X R j : ℝ) : EReal))
    (t : Fin cfg0.N) (r j : Fin 256) : iblk m c 0 t (ix2 r j) = ((X (row t r) j : ℝ) : EReal) := by
  show V m c main_arg0 (((cfg0.win 0).blk t).view.emb (ix2 r j)) = _
  rw [emb0, V_main_arg0]
  exact hX _ j

include hX hD

/-- The index array after the run. -/
theorem final2 : (dats m 0 c).arrAt 2 cfg0.N = idxArr X D := by
  refine (dats m 0 c).arrAt_eq_of_cover 2 (idxArr X D) (fun t _ => ?_) fun i => ?_
  · rw [flushed2]
    funext j
    obtain ⟨r, k, rfl⟩ : ∃ (r : Fin 256) (k : Fin 8), j = ix2 r k := ⟨j 0, j 1, ValueIdx.eq_ix2 j⟩
    show out0_2 (iblk m c 0 t) (iblk m c 1 t) (ix2 r k) = idxArr X D (((cfg0.win 2).blk t).view.emb (ix2 r k))
    rw [emb2]
    exact BodyValue.out2_apply _ _ r (X (row t r)) D (iblk0_apply m c X hX t r) (iblk1_apply m c D hD t) k
  · obtain ⟨R, k, rfl⟩ : ∃ (R : Fin 16384) (k : Fin 8), i = ix2 R k := ⟨i 0, i 1, ValueIdx.eq_ix2 i⟩
    obtain ⟨t, r, rfl⟩ := exists_row R
    exact ⟨t, flush0_2 t, emb2 t r k ▸ ((cfg0.win 2).blk t).view.emb_mem_set (ix2 r k)⟩

/-- The mean array after the run. -/
theorem final3 : (dats m 0 c).arrAt 3 cfg0.N = meanArr X D := by
  refine (dats m 0 c).arrAt_eq_of_cover 3 (meanArr X D) (fun t _ => ?_) fun i => ?_
  · rw [flushed3]
    funext j
    obtain ⟨r, k, rfl⟩ : ∃ (r k : Fin 256), j = ix2 r k := ⟨j 0, j 1, ValueIdx.eq_ix2 j⟩
    show out0_3 (iblk m c 0 t) (iblk m c 1 t) (ix2 r k) = meanArr X D (((cfg0.win 3).blk t).view.emb (ix2 r k))
    rw [emb3]
    exact BodyValue.out3_apply _ _ r (X (row t r)) D (iblk0_apply m c X hX t r) (iblk1_apply m c D hD t) k
  · obtain ⟨R, k, rfl⟩ : ∃ (R : Fin 16384) (k : Fin 256), i = ix2 R k := ⟨i 0, i 1, ValueIdx.eq_ix2 i⟩
    obtain ⟨t, r, rfl⟩ := exists_row R
    exact ⟨t, flush0_3 t, emb3 t r k ▸ ((cfg0.win 3).blk t).view.emb_mem_set (ix2 r k)⟩

end Cert.Proof.KernelValue

end
-- ==== Proof.RefValue.lean ====
/- THE REFERENCE'S TWO RESULTS, when its argument arrays hold real numbers: the reference's composed term is cut into its
   five steps (the squared distances; the division by each row's norm; the first eight of the sorted positions; the rows
   picked by them; their mean, from which the row is subtracted and to which it is added back), each is read at an index,
   and the two results are `idxArr` and `meanArr` of the arguments. Dividing a row by one positive number leaves the order
   of its values, and so the sorted positions, as they were. -/
module

public import proofs.«01_k».proof.Proof.Gen.ReferenceIdeal.Run
public import proofs.«01_k».proof.Proof.KernelValue

@[expose] public section

noncomputable section

open scoped BigOperators

namespace Cert.Proof.RefValue

open Cert.ReferenceIdeal Cert.ReferenceIdeal.Gen Idealize.ShloMosaic Cert.Proof.Meaning
open Cert.Proof.KernelValue (idxArr meanArr)

/-! ## The five steps -/

/-- The squared distances of every row from every dictionary row. -/
def dists (a : FVec Ideal S16384x256 .f32) (b : FVec Ideal S8192x256 .f32) : FVec Ideal S16384x8192 .f32 :=
  subf (addf
      (broadcastInDim S16384x8192 ![0, 1] bcast_S16384x1_S16384x8192_0_1 (broadcastInDim S16384x1 ![0] bcast_S16384_S16384x1_0
        (Host.reduceAdd (mulf a a) (constant S_ .f32 0x00000000#32) reducesTo_S16384x256_S16384_d1 h_S_)))
      (broadcastInDim S16384x8192 ![0, 1] bcast_S1x8192_S16384x8192_0_1 (broadcastInDim S1x8192 ![1] bcast_S8192_S1x8192_1
        (Host.reduceAdd (mulf b b) (constant S_ .f32 0x00000000#32) reducesTo_S8192x256_S8192_d1 h_S_))))
    (mulf (broadcastInDim S16384x8192 ![] bcast_S_S16384x8192 (constant S_ .f32 0x40000000#32))
      (Host.dotGeneral dot_S16384x256_S256x8192_S16384x8192_1_0_0_1_n_n none a
        (transpose S256x8192 [1, 0] b transposes_S8192x256_S256x8192_1_0)))

/-- The distances divided by the larger of their row's norm and the constant `1e-12`. -/
def normed (d : FVec Ideal S16384x8192 .f32) : FVec Ideal S16384x8192 .f32 :=
  Host.divf d (broadcastInDim S16384x8192 ![0, 1] bcast_S16384x1_S16384x8192_0_1
    (maximumf (Host.sqrt (broadcastInDim S16384x1 ![0] bcast_S16384_S16384x1_0
        (Host.reduceAdd (mulf d d) (constant S_ .f32 0x00000000#32) reducesTo_S16384x8192_S16384_d1 h_S_)))
      (broadcastInDim S16384x1 ![] bcast_S_S16384x1 (constant S_ .f32 0x2B8CBCCC#32))))

/-- The first eight positions of each row in sorted order. -/
def top (y : FVec Ideal S16384x8192 .f32) : IVec S16384x8 32 :=
  extractStridedSlice S16384x8 ![0, 0]
    (Host.sort2 S16384x8192 1 comparator_f32_i32_d1 y (iotaInDim S16384x8192 32 1)).2 slices_S16384x8192_S16384x8_0_0

/-- A position as a row number of the dictionary: a negative one counts from the dictionary's end. -/
def wrapped (i : IVec S16384x8 32) : IVec S16384x8x1 32 :=
  broadcastInDim S16384x8x1 ![0, 1] bcast_S16384x8_S16384x8x1_0_1
    (select (cmpi .slt i (broadcastInDim S16384x8 ![] bcast_S_S16384x8 (constantI S_ 32 0#32)))
      (addi i (broadcastInDim S16384x8 ![] bcast_S_S16384x8 (constantI S_ 32 8192#32))) i)

/-- The dictionary's rows at the given positions. -/
def pick (b : FVec Ideal S8192x256 .f32) (i : IVec S16384x8x1 32) : FVec Ideal S16384x8x256 .f32 :=
  Host.gather gather_S8192x256_S16384x8x1_S16384x8x256_2_0_n_n_0_2_1256 b i

/-- The mean of the picked rows, the argument subtracted and added back. -/
def avg (a : FVec Ideal S16384x256 .f32) (g : FVec Ideal S16384x8x256 .f32) : FVec Ideal S16384x256 .f32 :=
  addf (subf (Host.divf (Host.reduceAdd g (constant S_ .f32 0x00000000#32) reducesTo_S16384x8x256_S16384x256_d1 h_S_)
    (broadcastInDim S16384x256 ![] bcast_S_S16384x256 (constant S_ .f32 0x41000000#32))) a) a

/-! ## The sort read at an index -/

/-- The reference's comparator says "before" exactly when the first value is smaller than the second. -/
theorem comparator_eq (l r : Ideal .f32 × BitVec 32) :
    (comparator_f32_i32_d1 (F := Ideal) l r == 1#1) = decide (l.1 < r.1) := by
  have hz : ∀ v : EReal, Scalar.select (Ideal.cmp .une v v) (Ideal.ofBits .f32 0x7FC00000#32)
      (Scalar.select (Ideal.cmp .oeq v (Ideal.ofBits .f32 0x00000000#32)) (Ideal.ofBits .f32 0x00000000#32) v) = v := by
    intro v
    rw [Ideal.ofBits_zero_f32]
    by_cases h : v = 0 <;> simp [Ideal.cmp, Scalar.select, h]
  show (Ideal.cmp .olt
      (Scalar.select (Ideal.cmp .une l.1 l.1) (Ideal.ofBits .f32 0x7FC00000#32)
        (Scalar.select (Ideal.cmp .oeq l.1 (Ideal.ofBits .f32 0x00000000#32)) (Ideal.ofBits .f32 0x00000000#32) l.1))
      (Scalar.select (Ideal.cmp .une r.1 r.1) (Ideal.ofBits .f32 0x7FC00000#32)
        (Scalar.select (Ideal.cmp .oeq r.1 (Ideal.ofBits .f32 0x00000000#32)) (Ideal.ofBits .f32 0x00000000#32) r.1)) == 1#1) = _
  rw [hz, hz]
  show (Ideal.cmp .olt (l.1 : EReal) r.1 == 1#1) = decide ((l.1 : EReal) < r.1)
  by_cases h : (l.1 : EReal) < r.1 <;> simp [Ideal.cmp, h]

/-- Sorting the rows of a matrix together with the column numbers, by a comparator that compares the values alone: row
    `R` of the sorted column numbers has at place `k` the position that `TopK.order` puts there. -/
theorem sort_apply {m n : Nat} (cmp : Ideal .f32 × BitVec 32 → Ideal .f32 × BitVec 32 → BitVec 1)
    (hcmp : ∀ l r, (cmp l r == 1#1) = decide (l.1 < r.1)) (y : FVec Ideal ⟨2, ![m, n]⟩ .f32) (R : Fin m) (k : Fin n) :
    (Host.sort2 ⟨2, ![m, n]⟩ 1 cmp y (iotaInDim ⟨2, ![m, n]⟩ 32 1)).2 (ix2 R k)
      = BitVec.ofNat 32 (TopK.order (fun j => y (ix2 R j)) k).val := by
  have along : ∀ j : Fin n, Shape.Idx.along (s := ⟨2, ![m, n]⟩) (ix2 R k) (1 : Fin 2) j = ix2 R j := by
    intro j
    funext a
    match a with
    | ⟨0, _⟩ => rfl
    | ⟨1, _⟩ => rfl
  unfold Host.sort2
  rw [dif_pos (by decide : 1 < 2)]
  simp only [hcmp]
  show BitVec.ofNat 32 (sortedFrom _ k).val = _
  unfold TopK.order
  congr 3
  funext a b
  exact congrArg₂ (fun u v => decide (y u < y v)) (along a) (along b)

/-- The reference's index result: at row `R`, place `k`, the position that `TopK.order` puts there. -/
theorem top_apply (y : FVec Ideal S16384x8192 .f32) (R : Fin 16384) (k : Fin 8) :
    top y (ix2 R k) = BitVec.ofNat 32 (TopK.order (fun j => y (ix2 R j)) (place k)).val := by
  rw [← sort_apply comparator_f32_i32_d1 comparator_eq y R (place k)]
  pointwise [top]
  rfl

/-! ## The rows picked -/

/-- A position below 8192 is not negative, so it is the row number as it stands. -/
theorem wrapped_apply (i : IVec S16384x8 32) (R : Fin 16384) (k : Fin 8) (n : Fin 8192)
    (h : i (ix2 R k) = BitVec.ofNat 32 n.val) : wrapped i (ix3 R k 0) = BitVec.ofNat 32 n.val := by
  pointwise [wrapped]
  rw [h]
  have : IntOp.cmpi .slt (BitVec.ofNat 32 n.val) 0#32 = 0#1 := by
    have hn := Rounds.toInt_col n
    show BitVec.ofBool ((BitVec.ofNat 32 n.val).slt 0#32) = 0#1
    rw [show (BitVec.ofNat 32 n.val).slt 0#32 = false from decide_eq_false (by rw [hn]; simp)]
    rfl
  simp [this, Scalar.select]

/-- The picked rows: at row `R`, place `k`, the dictionary row whose number stands there. -/
theorem pick_apply (b : FVec Ideal S8192x256 .f32) (i : IVec S16384x8x1 32) (R : Fin 16384) (k : Fin 8) (c : Fin 256)
    (n : Fin 8192) (h : i (ix3 R k 0) = BitVec.ofNat 32 n.val) : pick b i (ix3 R k c) = b (ix2 n c) := by
  unfold pick Host.gather
  refine congrArg b (funext fun a => Fin.ext ?_)
  match a with
  | ⟨0, _⟩ =>
    show GatherDims.start _ (ix3 R k c) i 0 + GatherDims.batchCoord _ (ix3 R k c) 0 + GatherDims.offCoord _ (ix3 R k c) 0 = n.val
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    have hmap : (0 : Fin 2) ∈ gather_S8192x256_S16384x8x1_S16384x8x256_2_0_n_n_0_2_1256.startIndexMap :=
      List.mem_singleton.mpr rfl
    unfold GatherDims.start
    rw [dif_pos hmap]
    have hsi : ∀ p, GatherDims.siIdx gather_S8192x256_S16384x8x1_S16384x8x256_2_0_n_n_0_2_1256 (ix3 R k c) p = ix3 R k 0 := by
      intro p
      funext b'; refine Fin.ext ?_
      match b' with
      | ⟨0, _⟩ => rfl
      | ⟨1, _⟩ => rfl
      | ⟨2, _⟩ => exact Nat.lt_one_iff.mp (Fin.isLt _)
    rw [hsi, h, Rounds.toInt_col]
    have := n.isLt
    show min ((n.val : Int)).toNat (8192 - 1) = n.val
    omega
  | ⟨1, _⟩ =>
    show GatherDims.start _ (ix3 R k c) i 1 + GatherDims.batchCoord _ (ix3 R k c) 1 + GatherDims.offCoord _ (ix3 R k c) 1 = c.val
    rw [GatherDims.batchCoord_eq_zero _ _ _ List.not_mem_nil, Nat.add_zero]
    unfold GatherDims.start GatherDims.offCoord
    rw [dif_neg (by decide
        : (1 : Fin 2) ∉ gather_S8192x256_S16384x8x1_S16384x8x256_2_0_n_n_0_2_1256.startIndexMap),
      dif_pos ((GatherDims.mem_sKept _ _).mpr ⟨by decide, List.not_mem_nil⟩), Nat.zero_add]
    rfl

/-! ## The two results -/

variable (a : FVec Ideal S16384x256 .f32) (b : FVec Ideal S8192x256 .f32) (X : Fin 16384 → Row) (D : Fin 8192 → Row)
  (hX : ∀ R j, a (ix2 R j) = ((X R j : ℝ) : EReal)) (hD : ∀ i j, b (ix2 i j) = ((D i j : ℝ) : EReal))

include hX hD

/-- The distance of row `R` from dictionary row `j`, as the real it is. -/
theorem dists_apply (R : Fin 16384) (j : Fin 8192) : dists a b (ix2 R j) = distE (X R) D j := by
  pointwise [dists]
  simp only [hX, hD, coe_sum_mul, Consts.ofBits_two]
  rw [← EReal.coe_add, ← EReal.coe_mul, ← EReal.coe_sub]
  rfl

/-- A row's normalised distances are its distances times one positive real. -/
theorem normed_apply (R : Fin 16384) : ∃ q : ℝ, 0 < q ∧
    ∀ j, normed (dists a b) (ix2 R j) = ((dist (X R) D j * q : ℝ) : EReal) := by
  obtain ⟨e, he, hbits⟩ := Consts.ofBits_tiny
  have hm : 0 < max (Real.sqrt (∑ j, dist (X R) D j * dist (X R) D j)) e := lt_max_of_lt_right he
  refine ⟨1 / max (Real.sqrt (∑ j, dist (X R) D j * dist (X R) D j)) e, one_div_pos.mpr hm, fun j => ?_⟩
  have hn : ¬ (∑ j, dist (X R) D j * dist (X R) D j) < 0 :=
    not_lt.mpr (Finset.sum_nonneg fun i _ => mul_self_nonneg _)
  pointwise [normed]
  simp only [dists_apply a b X D hX hD, distE, coe_sum_mul, hbits, Ideal.sqrt_coe, if_neg hn]
  rw [← EReal.coe_strictMono.monotone.map_max, Ideal.div_coe hm.ne', ← EReal.coe_mul]

/-- So they are sorted as the distances are. -/
theorem normed_order (R : Fin 16384) : TopK.order (fun j => normed (dists a b) (ix2 R j)) = rank (X R) D := by
  obtain ⟨q, hq, h⟩ := normed_apply a b X D hX hD R
  refine TopK.order_congr _ _ fun i j => ?_
  rw [h, h]
  unfold distE
  rw [EReal.coe_lt_coe_iff, EReal.coe_lt_coe_iff]
  exact mul_lt_mul_iff_left₀ hq

/-- THE REFERENCE'S INDEX RESULT. -/
theorem top_eq : top (normed (dists a b)) = idxArr X D := by
  funext i
  obtain ⟨R, k, rfl⟩ : ∃ (R : Fin 16384) (k : Fin 8), i = ix2 R k := ⟨i 0, i 1, ValueIdx.eq_ix2 i⟩
  rw [top_apply, normed_order a b X D hX hD]
  rfl

/-- THE REFERENCE'S MEAN RESULT: subtracting a real and adding it back changes nothing. -/
theorem avg_eq : avg a (pick b (wrapped (top (normed (dists a b))))) = meanArr X D := by
  funext i
  obtain ⟨R, c, rfl⟩ : ∃ (R : Fin 16384) (c : Fin 256), i = ix2 R c := ⟨i 0, i 1, ValueIdx.eq_ix2 i⟩
  have hp : ∀ k : Fin 8, pick b (wrapped (top (normed (dists a b)))) (ix3 R k c)
      = ((D (rank (X R) D (place k)) c : ℝ) : EReal) := fun k => by
    rw [pick_apply b _ R k c (rank (X R) D (place k)) (wrapped_apply _ R k _ (by rw [top_eq a b X D hX hD]; rfl)), hD]
  pointwise [avg]
  simp only [hp, hX, coe_sum, Consts.ofBits_eight]
  rw [Ideal.div_coe (by norm_num), ← EReal.coe_mul, ← EReal.coe_sub, ← EReal.coe_add, sub_add_cancel, mul_one_div]
  rfl

omit hX hD in
/-- The reference's mean result is the five steps of its two arguments. -/
theorem res_eq (m : (ℓ : Loc nD τ sig) → Buf (Elt Ideal) ℓ) (c : Dev nD) : Value.res_main_v32 m c
    = avg (m ((c.tc : Thread nD τ).loc main_arg0)) (pick (m ((c.tc : Thread nD τ).loc main_arg1))
      (wrapped (top (normed (dists (m ((c.tc : Thread nD τ).loc main_arg0)) (m ((c.tc : Thread nD τ).loc main_arg1))))))) := rfl

omit hX hD in
/-- The reference's mean result, where its two arguments are the real arrays `X` and `D`. -/
theorem mean_eq (m : (ℓ : Loc nD τ sig) → Buf (Elt Ideal) ℓ) (c : Dev nD)
    (hX : ∀ R j, m ((c.tc : Thread nD τ).loc main_arg0) (ix2 R j) = ((X R j : ℝ) : EReal))
    (hD : ∀ i j, m ((c.tc : Thread nD τ).loc main_arg1) (ix2 i j) = ((D i j : ℝ) : EReal)) :
    Value.res_main_v32 m c = meanArr X D := (res_eq m c).trans (avg_eq _ _ X D hX hD)

end Cert.Proof.RefValue

end
-- ==== Proof.Finite.lean ====
/- WHAT THE PRECONDITION SAYS: where `finite` is all ones, every element of both argument arrays is a real number. The
   predicate takes the AND over each array of "the absolute value is below infinity". -/
module

public import proofs.«01_k».proof.Proof.Gen.Pre_finite
public import proofs.«01_k».proof.Proof.Consts
public import Idealize.ShloMosaic.Lib.ReduceAll

@[expose] public section

noncomputable section

namespace Cert.Proof.Finite

open Cert.Pre_finite Cert.Pre_finite.Gen Idealize.ShloMosaic

/-- An extended real whose absolute value is below infinity is the real it converts to. -/
theorem real_of_abs_lt {x : EReal} (h : Ideal.cmp .olt (max x (-x)) (Ideal.ofBits .f32 0x7F800000#32) = 1#1) :
    x = ((x.toReal : ℝ) : EReal) := by
  rw [Consts.ofBits_inf] at h
  have hlt : max x (-x) < ⊤ := by
    by_contra hn
    simp [Ideal.cmp, hn] at h
  refine (EReal.coe_toReal (ne_of_lt (lt_of_le_of_lt (le_max_left _ _) hlt)) fun hb => ?_).symm
  rw [hb] at hlt
  simp at hlt

/-- Where the predicate holds, every element of both arrays is a real. -/
theorem real_of_pre (a : FVec Ideal S16384x256 .f32) (b : FVec Ideal S8192x256 .f32)
    (h : Cert.Pre_finite.fn (F := Ideal) a b = fun _ => 1#1) :
    (∀ i, a i = (((a i : EReal).toReal : ℝ) : EReal)) ∧ ∀ i, b i = (((b i : EReal).toReal : ℝ) : EReal) := by
  haveI : Subsingleton S_.Idx := ⟨fun i j => funext fun k => k.elim0⟩
  have h1 := congrFun h (fun k => k.elim0)
  obtain ⟨ha, hb⟩ := IntOp.andi_eq_one.mp h1
  exact ⟨fun i => real_of_abs_lt (Host.reduce_andi_all _ _ _ _ _ ha i), fun i => real_of_abs_lt (Host.reduce_andi_all _ _ _ _ _ hb i)⟩

end Cert.Proof.Finite

end
-- ==== Proof.lean ====
/- THE CERTIFICATE of `kernel` (version v01) against the plain reference: it runs at both readings and leaves its arguments
   as they were, its "far" constant stands for infinity, and over the extended reals, on arrays of real numbers, it
   returns what the reference returns: for every row the positions of its eight nearest dictionary rows, nearest first
   and the earlier of two equally near ones first, and the mean of those rows. `KernelValue` computes the kernel's two
   arrays, `RefValue` the reference's, `Finite` reads the precondition. -/
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.KernelValue
public import proofs.«01_k».proof.Proof.RefValue
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The real number at row `R`, column `j` of an array. -/
def rows {n : Nat} (a : FVec Ideal ⟨2, ![n, 256]⟩ .f32) (R : Fin n) : Meaning.Row := fun j => (a (ix2 R j) : EReal).toReal

/-- The kernel runs over bits, keeps its arguments and ends with every counter at zero. -/
theorem frame_p : quiescent_Kernel := fun m ρ _ => Cert.Kernel.Gen.frame m ρ

/-- The kernel runs over the extended reals, keeps its arguments and ends with every counter at zero. -/
theorem frame_pi : quiescent_KernelIdeal := fun m ρ _ => Cert.KernelIdeal.Gen.frame m ρ

/-- The reference runs over the extended reals, keeps its arguments and ends with every counter at zero. -/
theorem frame_ri : quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The constant the kernel masks taken columns with is named "far" and read as infinity. -/
theorem preserves : preserves_Kernel_KernelIdeal := IdealRules.named_const.statement Cert.KernelIdeal.κ "far" .f32 0x7F61B1E6#32 ⊤ rfl

/-- The kernel and the reference, on equal arrays of real numbers, return equal means and equal positions. -/
theorem algebraic : algebraic_KernelIdeal_ReferenceIdeal_pre_finite := by
  intro m ρ m' ρ' hpre hargs
  let X := fun c : Dev Cert.KernelIdeal.nD => rows (m ((c.tc : Thread Cert.KernelIdeal.nD Cert.KernelIdeal.τ).loc Cert.KernelIdeal.main_arg0))
  let D := fun c : Dev Cert.KernelIdeal.nD => rows (m ((c.tc : Thread Cert.KernelIdeal.nD Cert.KernelIdeal.τ).loc Cert.KernelIdeal.main_arg1))
  have hX := fun (c : Dev Cert.KernelIdeal.nD) R j => (Finite.real_of_pre _ _ (hpre c)).1 (ix2 R j)
  have hD := fun (c : Dev Cert.KernelIdeal.nD) R j => (Finite.real_of_pre _ _ (hpre c)).2 (ix2 R j)
  refine ⟨fun c => KernelValue.meanArr (X c) (D c), fun c => KernelValue.idxArr (X c) (D c), ?_, ?_⟩
  · exact (θ_run Cert.KernelIdeal.defs _ _).mono
      (fun r h c => ⟨(h c).2.1.trans (KernelValue.final3 m c (X c) (D c) (hX c) (hD c)),
        (h c).1.trans (KernelValue.final2 m c (X c) (D c) (hX c) (hD c)), (h c).2.2⟩)
      (Cert.KernelIdeal.Value.run_blocks m ρ)
  · exact (θ_run Cert.ReferenceIdeal.defs _ _).mono
      (fun r h c => ⟨(h c).1.trans (RefValue.mean_eq (X c) (D c) m' c
          (fun R j => by rw [(hargs c).1]; exact hX c R j) fun R j => by rw [(hargs c).2]; exact hD c R j),
        (h c).2.1.trans (RefValue.top_eq _ _ (X c) (D c)
          (fun R j => by rw [(hargs c).1]; exact hX c R j) fun R j => by rw [(hargs c).2]; exact hD c R j), (h c).2.2⟩)
      (Cert.ReferenceIdeal.Value.run (F := Ideal) m' ρ')

/-- Every claim of the certificate. -/
theorem claim : Cert.Claim := ⟨Cert.Kernel.Gen.facts, Cert.KernelIdeal.Gen.facts, Cert.ReferenceIdeal.Gen.facts, Cert.Pre_finite.Gen.facts,
  frame_p, frame_pi, fun m ρ _ => frame_pi m ρ trivial, frame_ri, fun m ρ _ => frame_ri m ρ trivial, preserves, algebraic⟩

end Cert.Proof

end
